-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S16384x100 : Shape := ⟨2, ![16384, 100]⟩
abbrev S16384x4950 : Shape := ⟨2, ![16384, 4950]⟩
abbrev S256x100 : Shape := ⟨2, ![256, 100]⟩
abbrev S256x4950 : Shape := ⟨2, ![256, 4950]⟩
abbrev S256x1 : Shape := ⟨2, ![256, 1]⟩
abbrev S256x2 : Shape := ⟨2, ![256, 2]⟩
abbrev S256x3 : Shape := ⟨2, ![256, 3]⟩
abbrev S256x4 : Shape := ⟨2, ![256, 4]⟩
abbrev S256x5 : Shape := ⟨2, ![256, 5]⟩
abbrev S256x6 : Shape := ⟨2, ![256, 6]⟩
abbrev S256x7 : Shape := ⟨2, ![256, 7]⟩
abbrev S256x8 : Shape := ⟨2, ![256, 8]⟩
abbrev S256x9 : Shape := ⟨2, ![256, 9]⟩
abbrev S256x10 : Shape := ⟨2, ![256, 10]⟩
abbrev S256x11 : Shape := ⟨2, ![256, 11]⟩
abbrev S256x12 : Shape := ⟨2, ![256, 12]⟩
abbrev S256x13 : Shape := ⟨2, ![256, 13]⟩
abbrev S256x14 : Shape := ⟨2, ![256, 14]⟩
abbrev S256x15 : Shape := ⟨2, ![256, 15]⟩
abbrev S256x16 : Shape := ⟨2, ![256, 16]⟩
abbrev S256x17 : Shape := ⟨2, ![256, 17]⟩
abbrev S256x18 : Shape := ⟨2, ![256, 18]⟩
abbrev S256x19 : Shape := ⟨2, ![256, 19]⟩
abbrev S256x20 : Shape := ⟨2, ![256, 20]⟩
abbrev S256x21 : Shape := ⟨2, ![256, 21]⟩
abbrev S256x22 : Shape := ⟨2, ![256, 22]⟩
abbrev S256x23 : Shape := ⟨2, ![256, 23]⟩
abbrev S256x24 : Shape := ⟨2, ![256, 24]⟩
abbrev S256x25 : Shape := ⟨2, ![256, 25]⟩
abbrev S256x26 : Shape := ⟨2, ![256, 26]⟩
abbrev S256x27 : Shape := ⟨2, ![256, 27]⟩
abbrev S256x28 : Shape := ⟨2, ![256, 28]⟩
abbrev S256x29 : Shape := ⟨2, ![256, 29]⟩
abbrev S256x30 : Shape := ⟨2, ![256, 30]⟩
abbrev S256x31 : Shape := ⟨2, ![256, 31]⟩
abbrev S256x32 : Shape := ⟨2, ![256, 32]⟩
abbrev S256x33 : Shape := ⟨2, ![256, 33]⟩
abbrev S256x34 : Shape := ⟨2, ![256, 34]⟩
abbrev S256x35 : Shape := ⟨2, ![256, 35]⟩
abbrev S256x36 : Shape := ⟨2, ![256, 36]⟩
abbrev S256x37 : Shape := ⟨2, ![256, 37]⟩
abbrev S256x38 : Shape := ⟨2, ![256, 38]⟩
abbrev S256x39 : Shape := ⟨2, ![256, 39]⟩
abbrev S256x40 : Shape := ⟨2, ![256, 40]⟩
abbrev S256x41 : Shape := ⟨2, ![256, 41]⟩
abbrev S256x42 : Shape := ⟨2, ![256, 42]⟩
abbrev S256x43 : Shape := ⟨2, ![256, 43]⟩
abbrev S256x44 : Shape := ⟨2, ![256, 44]⟩
abbrev S256x45 : Shape := ⟨2, ![256, 45]⟩
abbrev S256x46 : Shape := ⟨2, ![256, 46]⟩
abbrev S256x47 : Shape := ⟨2, ![256, 47]⟩
abbrev S256x48 : Shape := ⟨2, ![256, 48]⟩
abbrev S256x49 : Shape := ⟨2, ![256, 49]⟩
abbrev S256x50 : Shape := ⟨2, ![256, 50]⟩
abbrev S256x51 : Shape := ⟨2, ![256, 51]⟩
abbrev S256x52 : Shape := ⟨2, ![256, 52]⟩
abbrev S256x53 : Shape := ⟨2, ![256, 53]⟩
abbrev S256x54 : Shape := ⟨2, ![256, 54]⟩
abbrev S256x55 : Shape := ⟨2, ![256, 55]⟩
abbrev S256x56 : Shape := ⟨2, ![256, 56]⟩
abbrev S256x57 : Shape := ⟨2, ![256, 57]⟩
abbrev S256x58 : Shape := ⟨2, ![256, 58]⟩
abbrev S256x59 : Shape := ⟨2, ![256, 59]⟩
abbrev S256x60 : Shape := ⟨2, ![256, 60]⟩
abbrev S256x61 : Shape := ⟨2, ![256, 61]⟩
abbrev S256x62 : Shape := ⟨2, ![256, 62]⟩
abbrev S256x63 : Shape := ⟨2, ![256, 63]⟩
abbrev S256x64 : Shape := ⟨2, ![256, 64]⟩
abbrev S256x65 : Shape := ⟨2, ![256, 65]⟩
abbrev S256x66 : Shape := ⟨2, ![256, 66]⟩
abbrev S256x67 : Shape := ⟨2, ![256, 67]⟩
abbrev S256x68 : Shape := ⟨2, ![256, 68]⟩
abbrev S256x69 : Shape := ⟨2, ![256, 69]⟩
abbrev S256x70 : Shape := ⟨2, ![256, 70]⟩
abbrev S256x71 : Shape := ⟨2, ![256, 71]⟩
abbrev S256x72 : Shape := ⟨2, ![256, 72]⟩
abbrev S256x73 : Shape := ⟨2, ![256, 73]⟩
abbrev S256x74 : Shape := ⟨2, ![256, 74]⟩
abbrev S256x75 : Shape := ⟨2, ![256, 75]⟩
abbrev S256x76 : Shape := ⟨2, ![256, 76]⟩
abbrev S256x77 : Shape := ⟨2, ![256, 77]⟩
abbrev S256x78 : Shape := ⟨2, ![256, 78]⟩
abbrev S256x79 : Shape := ⟨2, ![256, 79]⟩
abbrev S256x80 : Shape := ⟨2, ![256, 80]⟩
abbrev S256x81 : Shape := ⟨2, ![256, 81]⟩
abbrev S256x82 : Shape := ⟨2, ![256, 82]⟩
abbrev S256x83 : Shape := ⟨2, ![256, 83]⟩
abbrev S256x84 : Shape := ⟨2, ![256, 84]⟩
abbrev S256x85 : Shape := ⟨2, ![256, 85]⟩
abbrev S256x86 : Shape := ⟨2, ![256, 86]⟩
abbrev S256x87 : Shape := ⟨2, ![256, 87]⟩
abbrev S256x88 : Shape := ⟨2, ![256, 88]⟩
abbrev S256x89 : Shape := ⟨2, ![256, 89]⟩
abbrev S256x90 : Shape := ⟨2, ![256, 90]⟩
abbrev S256x91 : Shape := ⟨2, ![256, 91]⟩
abbrev S256x92 : Shape := ⟨2, ![256, 92]⟩
abbrev S256x93 : Shape := ⟨2, ![256, 93]⟩
abbrev S256x94 : Shape := ⟨2, ![256, 94]⟩
abbrev S256x95 : Shape := ⟨2, ![256, 95]⟩
abbrev S256x96 : Shape := ⟨2, ![256, 96]⟩
abbrev S256x97 : Shape := ⟨2, ![256, 97]⟩
abbrev S256x98 : Shape := ⟨2, ![256, 98]⟩
abbrev S256x99 : Shape := ⟨2, ![256, 99]⟩

abbrev nBuf : Space → Nat
  | .hbm => 2
  | .vmem => 4
  | .smem => 0
  | _ => 0

abbrev bufTy : (tb : Table) → Fin (tcTables nBuf tb) → BufTy
  | .hbm, ⟨0, _⟩ => ⟨S16384x100, .f32⟩
  | .hbm, ⟨1, _⟩ => ⟨S16384x4950, .f32⟩
  | .local _ .vmem, ⟨0, _⟩ => ⟨S256x100, .f32⟩
  | .local _ .vmem, ⟨1, _⟩ => ⟨S256x100, .f32⟩
  | .local _ .vmem, ⟨2, _⟩ => ⟨S256x4950, .f32⟩
  | .local _ .vmem, ⟨3, _⟩ => ⟨S256x4950, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4950 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x100 : Shape := ⟨2, ![16384, 100]⟩
abbrev S4950 : Shape := ⟨1, ![4950]⟩
abbrev S_ : Shape := ⟨0, ![]⟩
abbrev S4950x1 : Shape := ⟨2, ![4950, 1]⟩
abbrev S1 : Shape := ⟨1, ![1]⟩
abbrev S1x1 : Shape := ⟨2, ![1, 1]⟩
abbrev S16384x4950 : Shape := ⟨2, ![16384, 4950]⟩

abbrev nBuf : Space → Nat
  | .hbm => 50
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S4950, .i32⟩
  | .hbm, ⟨2, _⟩ => ⟨S4950, .i32⟩
  | .hbm, ⟨3, _⟩ => ⟨S_, .i32⟩
  | .hbm, ⟨4, _⟩ => ⟨S4950, .i32⟩
  | .hbm, ⟨5, _⟩ => ⟨S4950, .i1⟩
  | .hbm, ⟨6, _⟩ => ⟨S_, .i32⟩
  | .hbm, ⟨7, _⟩ => ⟨S4950, .i32⟩
  | .hbm, ⟨8, _⟩ => ⟨S4950, .i32⟩
  | .hbm, ⟨9, _⟩ => ⟨S4950, .i32⟩
  | .hbm, ⟨10, _⟩ => ⟨S4950x1, .i32⟩
  | .hbm, ⟨11, _⟩ => ⟨S1, .i32⟩
  | .hbm, ⟨12, _⟩ => ⟨S_, .i32⟩
  | .hbm, ⟨13, _⟩ => ⟨S4950x1, .i32⟩
  | .hbm, ⟨14, _⟩ => ⟨S4950x1, .i1⟩
  | .hbm, ⟨15, _⟩ => ⟨S1x1, .i32⟩
  | .hbm, ⟨16, _⟩ => ⟨S4950x1, .i32⟩
  | .hbm, ⟨17, _⟩ => ⟨S4950x1, .i1⟩
  | .hbm, ⟨18, _⟩ => ⟨S4950x1, .i1⟩
  | .hbm, ⟨19, _⟩ => ⟨S_, .i1⟩
  | .hbm, ⟨20, _⟩ => ⟨S4950, .i1⟩
  | .hbm, ⟨21, _⟩ => ⟨S16384x4950, .f32⟩
  | .hbm, ⟨22, _⟩ => ⟨S16384x4950, .i1⟩
  | .hbm, ⟨23, _⟩ => ⟨S_, .f32⟩
  | .hbm, ⟨24, _⟩ => ⟨S16384x4950, .f32⟩
  | .hbm, ⟨25, _⟩ => ⟨S16384x4950, .f32⟩
  | .hbm, ⟨26, _⟩ => ⟨S_, .i32⟩
  | .hbm, ⟨27, _⟩ => ⟨S4950, .i32⟩
  | .hbm, ⟨28, _⟩ => ⟨S4950, .i1⟩
  | .hbm, ⟨29, _⟩ => ⟨S_, .i32⟩
  | .hbm, ⟨30, _⟩ => ⟨S4950, .i32⟩
  | .hbm, ⟨31, _⟩ => ⟨S4950, .i32⟩
  | .hbm, ⟨32, _⟩ => ⟨S4950, .i32⟩
  | .hbm, ⟨33, _⟩ => ⟨S4950x1, .i32⟩
  | .hbm, ⟨34, _⟩ => ⟨S1, .i32⟩
  | .hbm, ⟨35, _⟩ => ⟨S_, .i32⟩
  | .hbm, ⟨36, _⟩ => ⟨S4950x1, .i32⟩
  | .hbm, ⟨37, _⟩ => ⟨S4950x1, .i1⟩
  | .hbm, ⟨38, _⟩ => ⟨S1x1, .i32⟩
  | .hbm, ⟨39, _⟩ => ⟨S4950x1, .i32⟩
  | .hbm, ⟨40, _⟩ => ⟨S4950x1, .i1⟩
  | .hbm, ⟨41, _⟩ => ⟨S4950x1, .i1⟩
  | .hbm, ⟨42, _⟩ => ⟨S_, .i1⟩
  | .hbm, ⟨43, _⟩ => ⟨S4950, .i1⟩
  | .hbm, ⟨44, _⟩ => ⟨S16384x4950, .f32⟩
  | .hbm, ⟨45, _⟩ => ⟨S16384x4950, .i1⟩
  | .hbm, ⟨46, _⟩ => ⟨S_, .f32⟩
  | .hbm, ⟨47, _⟩ => ⟨S16384x4950, .f32⟩
  | .hbm, ⟨48, _⟩ => ⟨S16384x4950, .f32⟩
  | .hbm, ⟨49, _⟩ => ⟨S16384x4950, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩

abbrev nD : Nat := 1
abbrev τ : Topo := Topo.v7x

variable {F : FTy → Type} [FloatOps F]
-- ==== Proof.Pairs.lean ====
/-
  The pairs (row, column) of the strict lower triangle of a 100 x 100 square, listed row after row, and the array of
  products they name.

  Row k of the triangle has the k columns 0 … k-1, so it starts at position k (k - 1) / 2 of the list. `hi` and `lo`
  read the row and the column of a position back. `pairProd x` holds, in each row of x and at each position of the
  list, the product of the two entries of x the pair names. Both the kernel and the reference are shown to compute it.
-/
module

public import Idealize.ShloMosaic.Lib.ValueIdxCore
public import Idealize.ShloMosaic.PureOps
public import Mathlib.Data.Nat.Find
public import Mathlib.Data.Nat.Choose.Basic

@[expose] public section

namespace Cert.Pairs

open Idealize.ShloMosaic Idealize.ShloMosaic.ValueIdx

/-! ## Positions in the list of pairs -/

/-- The position at which row k of the triangle starts: the number of pairs in the rows above. -/
def tri (k : Nat) : Nat := k * (k - 1) / 2

/-- Row k + 1 starts k positions after row k. -/
theorem tri_succ (k : Nat) : tri (k + 1) = tri k + k := Nat.triangle_succ k

/-- A later row starts no earlier. -/
theorem tri_mono {a b : Nat} (h : a ≤ b) : tri a ≤ tri b := by
  induction b, h using Nat.le_induction with
  | base => exact Nat.le_refl _
  | succ b _ ih => rw [tri_succ]; omega

/-- The row of position c: the last of the rows up to 99 that starts no later than c. -/
def hi (c : Nat) : Nat := Nat.findGreatest (fun k => tri k ≤ c) 99

/-- The column of position c: how far c lies behind the start of its row. -/
def lo (c : Nat) : Nat := c - tri (hi c)

theorem hi_lt (c : Nat) : hi c < 100 := Nat.lt_succ_of_le (Nat.findGreatest_le 99)

/-- The row of a position starts no later than the position. -/
theorem tri_hi_le (c : Nat) : tri (hi c) ≤ c :=
  Nat.findGreatest_spec (P := fun k => tri k ≤ c) (m := 0) (Nat.zero_le 99) (Nat.zero_le c)

/-- A position below 4950 lies before the start of the row after its own. -/
theorem lt_tri_hi_succ {c : Nat} (h : c < 4950) : c < tri (hi c + 1) := by
  by_contra hn
  have hn' : tri (hi c + 1) ≤ c := Nat.le_of_not_lt hn
  by_cases h99 : hi c + 1 ≤ 99
  · have := Nat.le_findGreatest (P := fun k => tri k ≤ c) h99 hn'
    change hi c + 1 ≤ hi c at this
    omega
  · have h1 : tri 100 ≤ tri (hi c + 1) := tri_mono (by omega)
    have h2 : tri 100 = 4950 := by decide
    omega

/-- The column of a position is below its row. -/
theorem lo_lt_hi {c : Nat} (h : c < 4950) : lo c < hi c := by
  have h1 := lt_tri_hi_succ h
  have h2 := tri_hi_le c
  rw [tri_succ] at h1
  unfold lo
  omega

theorem lo_lt {c : Nat} (h : c < 4950) : lo c < 100 := Nat.lt_trans (lo_lt_hi h) (hi_lt c)

/-- A position is the start of its row plus its column. -/
theorem tri_hi_add_lo (c : Nat) : tri (hi c) + lo c = c := Nat.add_sub_cancel' (tri_hi_le c)

/-- The row of the position of pair (k, j) is k. -/
theorem hi_tri_add {k j : Nat} (hk : k < 100) (hj : j < k) : hi (tri k + j) = k := by
  have h1 : k ≤ hi (tri k + j) := Nat.le_findGreatest (P := fun i => tri i ≤ tri k + j) (by omega) (Nat.le_add_right _ _)
  refine Nat.le_antisymm (Nat.le_of_not_lt fun h => ?_) h1
  have h2 : tri (k + 1) ≤ tri (hi (tri k + j)) := tri_mono h
  have h3 := tri_hi_le (tri k + j)
  rw [tri_succ] at h2
  omega

/-- The column of the position of pair (k, j) is j. -/
theorem lo_tri_add {k j : Nat} (hk : k < 100) (hj : j < k) : lo (tri k + j) = j := by
  rw [lo, hi_tri_add hk hj, Nat.add_sub_cancel_left]

/-! ## The array of products -/

variable {F : FTy → Type} [FloatOps F]

/-- The products of the pairs: row r, position c holds x(r, row of c) times x(r, column of c). -/
def pairProd {n : Nat} (x : Vec F (⟨2, ![n, 100]⟩ : Shape) .f32) : Vec F (⟨2, ![n, 4950]⟩ : Shape) .f32 := fun y =>
  FloatOps.mulf (x (ix2 (y 0) ⟨hi (y 1).val, hi_lt _⟩)) (x (ix2 (y 0) ⟨lo (y 1).val, lo_lt (y 1).isLt⟩))

/-- At the position of pair (k, j) the product is of entries k and j. -/
theorem pairProd_apply {n k j : Nat} (x : Vec F (⟨2, ![n, 100]⟩ : Shape) .f32) (y : (⟨2, ![n, 4950]⟩ : Shape).Idx)
    (hk : k < 100) (hj : j < k) (hy : (y 1).val = tri k + j) :
    pairProd x y = FloatOps.mulf (x (ix2 (y 0) ⟨k, hk⟩)) (x (ix2 (y 0) ⟨j, Nat.lt_trans hj hk⟩)) := by
  have h1 : hi (y 1).val = k := by rw [hy]; exact hi_tri_add hk hj
  have h2 : lo (y 1).val = j := by rw [hy]; exact lo_tri_add hk hj
  unfold pairProd
  congr 3 <;> exact Fin.ext (by assumption)

/-- Two arrays that hold the same row give the same products there. -/
theorem pairProd_row {n N : Nat} (x : Vec F (⟨2, ![n, 100]⟩ : Shape) .f32) (X : Vec F (⟨2, ![N, 100]⟩ : Shape) .f32)
    (y : (⟨2, ![n, 4950]⟩ : Shape).Idx) (Y : (⟨2, ![N, 4950]⟩ : Shape).Idx) (hcol : (Y 1).val = (y 1).val)
    (hrow : ∀ j : Fin 100, x (ix2 (y 0) j) = X (ix2 (Y 0) j)) : pairProd x y = pairProd X Y := by
  unfold pairProd
  rw [hrow, hrow]
  congr 4 <;> rw [hcol]

end Cert.Pairs
-- ==== Proof.Slab.lean ====
/-
  One store of the kernel: the product of one column of the tile with the columns before it, written where that row of
  the triangle lies in the list of pairs. Everything here is stated for any number of rows and any column k.
-/
module

public import proofs.«01_k».proof.Proof.Pairs
public import Idealize.ShloMosaic.Lib.Pipeline.Value

@[expose] public section

namespace Cert.Pairs

open Idealize.ShloMosaic Idealize.ShloMosaic.ValueIdx

variable {F : FTy → Type} [FloatOps F]

/-- Column k of the tile, read at row r. -/
theorem column_apply {n k : Nat} (hk : k < 100) (x : Vec F (⟨2, ![n, 100]⟩ : Shape) .f32)
    (h : (⟨2, ![n, 100]⟩ : Shape).Slices ![0, k] ⟨2, ![n, 1]⟩) (y : (⟨2, ![n, 1]⟩ : Shape).Idx) :
    extractStridedSlice (⟨2, ![n, 1]⟩ : Shape) ![0, k] x h y = x (ix2 (y 0) ⟨k, hk⟩) := by
  refine extractStridedSlice_apply _ x h y _ fun a => ?_
  match a with
  | ⟨0, _⟩ => exact (Nat.zero_add _).symm
  | ⟨1, _⟩ =>
    have : (y 1).val = 0 := by have := (y 1).isLt; change (y 1).val < 1 at this; omega
    show k = k + (y 1).val
    omega

/-- The first w columns of the tile, read at (r, j). -/
theorem columns_apply {n w : Nat} (hw : w ≤ 100) (x : Vec F (⟨2, ![n, 100]⟩ : Shape) .f32)
    (h : (⟨2, ![n, 100]⟩ : Shape).Slices ![0, 0] ⟨2, ![n, w]⟩) (y : (⟨2, ![n, w]⟩ : Shape).Idx) :
    extractStridedSlice (⟨2, ![n, w]⟩ : Shape) ![0, 0] x h y = x (ix2 (y 0) ⟨(y 1).val, Nat.lt_of_lt_of_le (y 1).isLt hw⟩) := by
  refine extractStridedSlice_apply _ x h y _ fun a => ?_
  match a with
  | ⟨0, _⟩ => exact (Nat.zero_add _).symm
  | ⟨1, _⟩ => exact (Nat.zero_add _).symm

/-- A column spread over w columns holds, in every column, its entry of the row. -/
theorem spread_apply {n w : Nat} (u : Vec F (⟨2, ![n, 1]⟩ : Shape) .f32)
    (h : (⟨2, ![n, 1]⟩ : Shape).Broadcasts ⟨2, ![n, w]⟩) (y : (⟨2, ![n, w]⟩ : Shape).Idx) :
    broadcastTo (⟨2, ![n, w]⟩ : Shape) u h y = u (ix2 (y 0) 0) := by
  refine broadcastTo_apply u h y _ fun a => ?_
  match a with
  | ⟨0, _⟩ =>
    show (y 0).val = if n = 1 then 0 else (y 0).val
    split
    · have := (y 0).isLt; change (y 0).val < n at this; omega
    · rfl
  | ⟨1, _⟩ => rfl

/-- THE STORE OF ROW k: column k spread over k columns, times the first k columns, is the part of the array of
    products that the stored box covers, the k columns from the start of row k on. -/
theorem slab_apply {n k off : Nat} (x : Vec F (⟨2, ![n, 100]⟩ : Shape) .f32)
    (hc : (⟨2, ![n, 100]⟩ : Shape).Slices ![0, k] ⟨2, ![n, 1]⟩) (hb : (⟨2, ![n, 1]⟩ : Shape).Broadcasts ⟨2, ![n, k]⟩)
    (hs : (⟨2, ![n, 100]⟩ : Shape).Slices ![0, 0] ⟨2, ![n, k]⟩)
    (inb : ∀ a, (![0, off] : Fin 2 → Nat) a + (![n, k] : Fin 2 → Nat) a ≤ (⟨2, ![n, 4950]⟩ : Shape).size a)
    (hk : k < 100) (hoff : off = tri k) (y : (⟨2, ![n, k]⟩ : Shape).Idx) :
    mulf (broadcastTo (⟨2, ![n, k]⟩ : Shape) (extractStridedSlice (⟨2, ![n, 1]⟩ : Shape) ![0, k] x hc) hb)
        (extractStridedSlice (⟨2, ![n, k]⟩ : Shape) ![0, 0] x hs) y
      = pairProd x ((Rect.unit (s := (⟨2, ![n, 4950]⟩ : Shape)) ![0, off] ![n, k] inb).emb y) := by
  subst hoff
  have hj : (y 1).val < k := (y 1).isLt
  have e1 : (((Rect.unit (s := (⟨2, ![n, 4950]⟩ : Shape)) ![0, tri k] ![n, k] inb).emb y) 1).val = tri k + (y 1).val := by
    show tri k + 1 * (y 1).val = _
    rw [Nat.one_mul]
  have e0 : ((Rect.unit (s := (⟨2, ![n, 4950]⟩ : Shape)) ![0, tri k] ![n, k] inb).emb y) 0 = y 0 := Fin.ext (by
    show 0 + 1 * (y 0).val = _
    rw [Nat.one_mul, Nat.zero_add])
  rw [pairProd_apply x _ hk hj e1, e0]
  show FloatOps.mulf _ _ = _
  rw [spread_apply, column_apply hk, columns_apply (Nat.le_of_lt hk)]
  rfl

/-! ## The stores as pieces of the tile -/

/-- The offsets 0, 0, written out, are zero on both axes. -/
theorem offsets_zero : (![0, 0] : Fin 2 → Nat) = fun _ => 0 := funext fun a => by fin_cases a <;> rfl

/-- A piece of the tile — a box and the values stored there — agrees with the array of products of x. -/
def Agrees {n : Nat} (x : Vec F (⟨2, ![n, 100]⟩ : Shape) .f32) (p : View.Piece (Elt F) (⟨2, ![n, 4950]⟩ : Shape) .f32) : Prop :=
  ∀ y, p.2 y = pairProd x (p.1.emb y)

/-- The piece stored for row k agrees with the array of products. -/
theorem agrees_slab {n k off : Nat} (x : Vec F (⟨2, ![n, 100]⟩ : Shape) .f32)
    (inb : ∀ a, (![0, off] : Fin 2 → Nat) a + (![n, k] : Fin 2 → Nat) a ≤ (⟨2, ![n, 4950]⟩ : Shape).size a)
    (hk : k < 100) (hoff : off = tri k) (pay : Vec F (⟨2, ![n, k]⟩ : Shape) .f32)
    (hpay : ∀ hc hb hs, pay = mulf (broadcastTo (⟨2, ![n, k]⟩ : Shape) (extractStridedSlice (⟨2, ![n, 1]⟩ : Shape) ![0, k] x hc) hb)
        (extractStridedSlice (⟨2, ![n, k]⟩ : Shape) ![0, 0] x hs)) :
    Agrees x ⟨Rect.unit (s := (⟨2, ![n, 4950]⟩ : Shape)) ![0, off] ![n, k] inb, pay⟩ := by
  have hc : (⟨2, ![n, 100]⟩ : Shape).Slices ![0, k] ⟨2, ![n, 1]⟩ := ⟨rfl, fun a => by
    match a with
    | ⟨0, _⟩ => exact (Nat.zero_add n).le
    | ⟨1, _⟩ => exact hk⟩
  have hb : (⟨2, ![n, 1]⟩ : Shape).Broadcasts ⟨2, ![n, k]⟩ := ⟨Nat.le_refl 2, fun a => by
    match a with
    | ⟨0, _⟩ => exact .inr fun _ => rfl
    | ⟨1, _⟩ => exact .inl rfl⟩
  have hs : (⟨2, ![n, 100]⟩ : Shape).Slices ![0, 0] ⟨2, ![n, k]⟩ := ⟨rfl, fun a => by
    match a with
    | ⟨0, _⟩ => exact (Nat.zero_add n).le
    | ⟨1, _⟩ => exact (Nat.zero_add k).le.trans hk.le⟩
  intro y
  show pay y = _
  rw [hpay hc hb hs]
  exact slab_apply x hc hb hs inb hk hoff y

/-- The piece stored for row 1 agrees with the array of products. -/
theorem agrees_slab_one {n : Nat} (x : Vec F (⟨2, ![n, 100]⟩ : Shape) .f32)
    (inb : ∀ a, (![0, 0] : Fin 2 → Nat) a + (![n, 1] : Fin 2 → Nat) a ≤ (⟨2, ![n, 4950]⟩ : Shape).size a)
    (pay : Vec F (⟨2, ![n, 1]⟩ : Shape) .f32)
    (hpay : ∀ hc hs, pay = mulf (extractStridedSlice (⟨2, ![n, 1]⟩ : Shape) ![0, 1] x hc)
        (extractStridedSlice (⟨2, ![n, 1]⟩ : Shape) ![0, 0] x hs)) :
    Agrees x ⟨Rect.unit (s := (⟨2, ![n, 4950]⟩ : Shape)) ![0, 0] ![n, 1] inb, pay⟩ := by
  refine agrees_slab (k := 1) x inb (by decide) (by decide) pay fun hc hb hs => ?_
  funext y
  rw [hpay hc hs]
  show FloatOps.mulf _ _ = FloatOps.mulf _ _
  rw [spread_apply, column_apply (by decide) x hc, column_apply (by decide) x hc]
  rfl

/-- Pieces that agree with the array of products and cover the tile leave the array of products. -/
theorem canon_of_agrees {n : Nat} (x : Vec F (⟨2, ![n, 100]⟩ : Shape) .f32)
    (L : List (View.Piece (Elt F) (⟨2, ![n, 4950]⟩ : Shape) .f32)) (h : ∀ p ∈ L, Agrees x p) (hcover : ∀ y, ∃ p ∈ L, y ∈ p.1.set) :
    View.canon L = pairProd x :=
  funext fun y => View.canon_apply_of_pieces (pairProd x) L h y (hcover y)

end Cert.Pairs
-- ==== Proof.KernelIdealValue.lean ====
/-
  What the idealized kernel computes: every grid point writes the products of its 256 rows, and the blocks of the 64
  grid points fill the result array.
-/
module

public import proofs.«01_k».proof.Proof.Gen.KernelIdeal.Value
public import proofs.«01_k».proof.Proof.Slab

@[expose] public section

noncomputable section

namespace Cert.KernelIdeal.Pairs

open Cert.KernelIdeal Cert.KernelIdeal.Gen Cert.Pairs Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

set_option maxRecDepth 65536 in
/-- Each of the body's 99 stores writes its part of the tile's array of products. -/
theorem pieces (c : Dev nD) (i : grid0.Coords) (arg1 : Memref sig .tc .vmem S256x100 .f32) (harg1 : arg1.IsWhole)
    (arg2 : Memref sig .tc .vmem S256x4950 .f32) (harg2 : arg2.IsWhole) (x0 : Vec F S256x100 .f32) :
    ∀ p ∈ (kernelRun0_A c i arg1 harg1 arg2 harg2 x0).1, Agrees x0 p := by
  have hx : View.readAt (Elt F) arg1.view (Rect.unit ![0, 0] S256x100.size inb_S256x100_S256x100_0_0).toLoadRect
      (harg1.unread x0) = x0 := by
    rw [View.readAt_eq_ld, harg1.read_unread, View.ld_unit_zero offsets_zero]
  unfold kernelRun0_A
  dsimp only
  sl_unfold_words
  rw [hx]
  iterate 98 refine List.forall_mem_cons.2 ⟨agrees_slab x0 _ (by decide) (by decide) _ fun _ _ _ => rfl, ?_⟩
  refine List.forall_mem_cons.2 ⟨agrees_slab_one x0 _ _ fun _ _ => rfl, ?_⟩
  exact fun p hp => absurd hp List.not_mem_nil

/-- So the body leaves the products of its tile. -/
theorem out_eq (c : Dev nD) (i : grid0.Coords) (arg1 : Memref sig .tc .vmem S256x100 .f32) (harg1 : arg1.IsWhole)
    (arg2 : Memref sig .tc .vmem S256x4950 .f32) (harg2 : arg2.IsWhole) (x0 : Vec F S256x100 .f32) :
    out0_A_1 c i arg1 harg1 arg2 harg2 x0 = pairProd x0 := by
  unfold out0_A_1
  rw [View.read_writes_junk_eq_canon]
  exact canon_of_agrees x0 _ (pieces c i arg1 harg1 arg2 harg2 x0) (cover0_A_1 c i arg1 harg1 arg2 harg2 x0)

/-- The products of device c's argument array: what the result array is shown to hold. -/
abbrev products (c : Dev nD) : Buf (Elt F) ((c : Thread nD τ).loc main_v0) :=
  pairProd (n := 16384) (m ((c : Thread nD τ).loc main_arg0))

/-- Grid point t reads and writes its block of 256 rows, the whole width. -/
theorem geometry (t : Fin cfg0.N) :
    win0_0.index t 0 * win0_0.size 0 = t.val * 256 ∧ win0_0.index t 1 * win0_0.size 1 = 0
      ∧ win0_1.index t 0 * win0_1.size 0 = t.val * 256 ∧ win0_1.xsize (grid0.coords t) 0 = 256
      ∧ win0_1.index t 1 * win0_1.size 1 = 0 ∧ win0_1.xsize (grid0.coords t) 1 = 4950 :=
  (by decide +kernel : ∀ t : Fin grid0.N,
    win0_0.index t 0 * win0_0.size 0 = t.val * 256 ∧ win0_0.index t 1 * win0_0.size 1 = 0
      ∧ win0_1.index t 0 * win0_1.size 0 = t.val * 256 ∧ win0_1.xsize (grid0.coords t) 0 = 256
      ∧ win0_1.index t 1 * win0_1.size 1 = 0 ∧ win0_1.xsize (grid0.coords t) 1 = 4950) t

/-- What point t writes back is block t of the products of the whole array. -/
theorem flushed_eq (c : Dev nD) (t : Fin cfg0.N) :
    (dats m 0 c).flushed 1 t = ((cfg0.win 1).blk t).view.read (Elt F) (products m c) := by
  rw [Value.flushed1_A, out_eq]
  funext y
  obtain ⟨g0, g1, g2, -, g4, -⟩ := geometry t
  have hcol : (((win0_1.rect t).emb y) 1).val = (y 1).val := by
    show win0_1.index t 1 * win0_1.size 1 + 1 * (y 1).val = _
    rw [g4, Nat.one_mul, Nat.zero_add]
  refine pairProd_row (iblk m c 0 t) _ (win0_1.xinj (grid0.coords t) y) ((win0_1.rect t).emb y) hcol fun j => ?_
  rw [← V_main_arg0 m c]
  refine congrArg (V m c main_arg0) (funext fun a => Fin.ext ?_)
  match a with
  | ⟨0, _⟩ =>
    show win0_0.index t 0 * win0_0.size 0 + 1 * (y 0).val = win0_1.index t 0 * win0_1.size 0 + 1 * (y 0).val
    rw [g0, g2]
  | ⟨1, _⟩ =>
    show win0_0.index t 1 * win0_0.size 1 + 1 * j.val = j.val
    rw [g1, Nat.one_mul, Nat.zero_add]

/-- An index of the result array is in point t's block when its row is one of the block's 256. -/
theorem mem_blk (t : Fin cfg0.N) (i : S16384x4950.Idx) :
    i ∈ ((cfg0.win 1).blk t).view.set ↔ t.val * 256 ≤ (i 0).val ∧ (i 0).val < t.val * 256 + 256 := by
  show i ∈ ((View.whole main_v0).slice (win0_1.rect t)).set ↔ _
  rw [View.set_slice_whole, Rect.mem_set_unit]
  obtain ⟨-, -, g2, g3, g4, g5⟩ := geometry t
  have h1 : (i 1).val < 4950 := (i 1).isLt
  refine ⟨fun h => ?_, fun h a => ?_⟩
  · have h0 : win0_1.index t 0 * win0_1.size 0 ≤ (i 0).val
        ∧ (i 0).val < win0_1.index t 0 * win0_1.size 0 + win0_1.xsize (grid0.coords t) 0 := h 0
    rwa [g2, g3] at h0
  · match a with
    | ⟨0, _⟩ =>
      show win0_1.index t 0 * win0_1.size 0 ≤ (i 0).val
        ∧ (i 0).val < win0_1.index t 0 * win0_1.size 0 + win0_1.xsize (grid0.coords t) 0
      rwa [g2, g3]
    | ⟨1, _⟩ =>
      show win0_1.index t 1 * win0_1.size 1 ≤ (i 1).val
        ∧ (i 1).val < win0_1.index t 1 * win0_1.size 1 + win0_1.xsize (grid0.coords t) 1
      rw [g4, g5]
      omega

/-- Every index of the result array lies in the block of some point. -/
theorem cover (i : S16384x4950.Idx) :
    ∃ t : Fin cfg0.N, (cfg0.win 1).flush t = true ∧ i ∈ ((cfg0.win 1).blk t).view.set := by
  have h0 : (i 0).val < 16384 := (i 0).isLt
  have hN : cfg0.N = 64 := N_0
  refine ⟨⟨(i 0).val / 256, by omega⟩, flush0_1 _, ?_⟩
  rw [mem_blk]
  dsimp only
  omega

/-- So the result array ends holding the products. -/
theorem final (c : Dev nD) : (dats m 0 c).arrAt 1 cfg0.N = products m c :=
  (dats m 0 c).arrAt_eq_of_cover 1 (products m c) (fun t _ => flushed_eq m c t) cover

/-- THE RUN: from any memory with zero counters, every fair run of the kernel ends with the result array at the products
    of the argument array, and the argument array as it was. -/
theorem run : θ_run defs (onTc (τ := τ) (main (F := F))) ⟨m, fun _ => 0, ρ⟩ fun r => ∀ c : Dev nD,
      r.2.mem ((c : Thread nD τ).loc main_v0) = products m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Pairs

end
-- ==== Proof.Take.lean ====
/-
  Taking columns of an array by a table of column numbers, as the reference does it: an index below zero is first moved
  up by the number of columns, a column is gathered for each index, and a result whose index lies outside the array is
  replaced by a fixed value. For a table of numbers from 0 to 99 nothing is moved and nothing is replaced: the result's
  column c is the array's column of number table c.
-/
module

public import proofs.«01_k».proof.Proof.Pairs
public import Idealize.ShloMosaic.Lib.Pipeline.Value
public import Idealize.ShloMosaic.Lib.ReduceAll
public import Idealize.ShloMosaic.Lib.WordArith

@[expose] public section

namespace Cert.Pairs

open Idealize.ShloMosaic Idealize.ShloMosaic.ValueIdx

/-- GATHERING COLUMNS: one column number per result column, read off an index array of one entry per row. Where the
    index array holds k in row c, the result holds at (r, c) the array's entry (r, k). -/
theorem gather_column {α : Type} {R C n : Nat}
    (wf : GatherDims.WF (⟨2, ![R, C]⟩ : Shape) (⟨2, ![n, 1]⟩ : Shape) (⟨2, ![R, n]⟩ : Shape) [0] [1] [] [1] [] 1 ![R, 1])
    (x : (⟨2, ![R, C]⟩ : Shape).Idx → α) (idx : IVec (⟨2, ![n, 1]⟩ : Shape) 32) (r : Fin R) (c : Fin n) (k : Fin C)
    (hC : C < 2 ^ 31) (hk : idx (ix2 c (0 : Fin 1)) = BitVec.ofNat 32 k.val) :
    Host.gather (⟨[0], [1], [], [], [1], 1, ![R, 1], wf⟩ : GatherDims (⟨2, ![R, C]⟩ : Shape) (⟨2, ![n, 1]⟩ : Shape) (⟨2, ![R, n]⟩ : Shape))
      x idx (ix2 r c) = x (ix2 r k) := by
  set d : GatherDims (⟨2, ![R, C]⟩ : Shape) (⟨2, ![n, 1]⟩ : Shape) (⟨2, ![R, n]⟩ : Shape) := ⟨[0], [1], [], [], [1], 1, ![R, 1], wf⟩
  show x (d.operandIdx (ix2 r c) idx) = _
  refine congrArg x (funext fun a => Fin.ext ?_)
  match a with
  | ⟨0, _⟩ =>
    show 0 + 0 + r.val = r.val
    omega
  | ⟨1, _⟩ =>
    have hsi : d.siIdx (ix2 r c) ⟨0, Nat.one_pos⟩ = ix2 c (0 : Fin 1) := funext fun b => by
      match b with
      | ⟨0, _⟩ => rfl
      | ⟨1, _⟩ => rfl
    show min (idx (d.siIdx (ix2 r c) ⟨0, Nat.one_pos⟩)).toInt.toNat (C - 1) + 0 + 0 = k.val
    rw [hsi, hk, WordArith.toInt_ofNat_small _ (by omega)]
    have := k.isLt
    simp only [Int.toNat_natCast]
    omega

/-- A vector's entries are numbered by their one coordinate. -/
theorem rowMajor_vector {n : Nat} (i : (⟨1, ![n]⟩ : Shape).Idx) : ((⟨1, ![n]⟩ : Shape).rowMajor i).val = (i 0).val := by
  show (i 0).val * 1 + 0 = (i 0).val
  rw [Nat.mul_one, Nat.add_zero]

/-- A word from 0 to 99 is not below zero, and lies from 0 to 99. -/
theorem column_word (k : Fin 100) :
    IntOp.cmpi .slt (BitVec.ofNat 32 k.val) 0#32 = 0#1
      ∧ IntOp.andi (IntOp.cmpi .sge (BitVec.ofNat 32 k.val) 0#32) (IntOp.cmpi .sle (BitVec.ofNat 32 k.val) 99#32) = 1#1 :=
  (by decide : ∀ k : Fin 100, IntOp.cmpi .slt (BitVec.ofNat 32 k.val) 0#32 = 0#1
      ∧ IntOp.andi (IntOp.cmpi .sge (BitVec.ofNat 32 k.val) 0#32) (IntOp.cmpi .sle (BitVec.ofNat 32 k.val) 99#32) = 1#1) k

/-- The table with each word below zero moved up by 100, as one entry per row. -/
abbrev wrapped {n : Nat} (tbl : IVec (⟨1, ![n]⟩ : Shape) 32)
    (b0 : (⟨0, ![]⟩ : Shape).BroadcastsInDim (⟨1, ![n]⟩ : Shape) ![])
    (b1 : (⟨1, ![n]⟩ : Shape).BroadcastsInDim (⟨2, ![n, 1]⟩ : Shape) ![0]) : IVec (⟨2, ![n, 1]⟩ : Shape) 32 :=
  broadcastInDim (⟨2, ![n, 1]⟩ : Shape) ![0] b1
    (select (cmpi .slt tbl (broadcastInDim (⟨1, ![n]⟩ : Shape) ![] b0 (constantI (⟨0, ![]⟩ : Shape) 32 0#32)))
      (addi tbl (broadcastInDim (⟨1, ![n]⟩ : Shape) ![] b0 (constantI (⟨0, ![]⟩ : Shape) 32 100#32))) tbl)

/-- Where the table holds a number from 0 to 99, nothing is moved. -/
theorem wrapped_apply {n : Nat} (tbl : IVec (⟨1, ![n]⟩ : Shape) 32)
    (b0 : (⟨0, ![]⟩ : Shape).BroadcastsInDim (⟨1, ![n]⟩ : Shape) ![])
    (b1 : (⟨1, ![n]⟩ : Shape).BroadcastsInDim (⟨2, ![n, 1]⟩ : Shape) ![0]) (i : (⟨2, ![n, 1]⟩ : Shape).Idx) (k : Fin 100)
    (hk : tbl (ix1 (i 0)) = BitVec.ofNat 32 k.val) : wrapped tbl b0 b1 i = BitVec.ofNat 32 k.val := by
  unfold wrapped
  refine (broadcastInDim_apply _ b1 _ i (ix1 (i 0)) fun a => ?_).trans ?_
  · match a with
    | ⟨0, _⟩ =>
      show (i 0).val = if n = 1 then 0 else (i 0).val
      split
      · have := (i 0).isLt; change (i 0).val < n at this; omega
      · rfl
  · show Scalar.select (IntOp.cmpi .slt (tbl (ix1 (i 0))) 0#32) _ (tbl (ix1 (i 0))) = _
    rw [hk, (column_word k).1]
    rfl

/-- TAKING COLUMNS by a table of numbers from 0 to 99: the result holds at (r, c) the array's entry (r, table c), whatever
    the value is that stands for an index outside the array. -/
theorem take_apply {α : Type} {R n : Nat} (x : (⟨2, ![R, 100]⟩ : Shape).Idx → α) (fill : (⟨2, ![R, n]⟩ : Shape).Idx → α)
    (tbl : IVec (⟨1, ![n]⟩ : Shape) 32) (num : Fin n → Fin 100) (htbl : ∀ c, tbl (ix1 c) = BitVec.ofNat 32 (num c).val)
    (b0 : (⟨0, ![]⟩ : Shape).BroadcastsInDim (⟨1, ![n]⟩ : Shape) ![])
    (b1 : (⟨1, ![n]⟩ : Shape).BroadcastsInDim (⟨2, ![n, 1]⟩ : Shape) ![0])
    (b2 : (⟨0, ![]⟩ : Shape).BroadcastsInDim (⟨2, ![n, 1]⟩ : Shape) ![])
    (b3 : (⟨1, ![1]⟩ : Shape).BroadcastsInDim (⟨2, ![1, 1]⟩ : Shape) ![1])
    (b4 : (⟨2, ![1, 1]⟩ : Shape).BroadcastsInDim (⟨2, ![n, 1]⟩ : Shape) ![0, 1])
    (b5 : (⟨1, ![n]⟩ : Shape).BroadcastsInDim (⟨2, ![R, n]⟩ : Shape) ![1])
    (hred : (⟨2, ![n, 1]⟩ : Shape).ReducesTo [1] (⟨1, ![n]⟩ : Shape)) (h0 : 0 < (⟨0, ![]⟩ : Shape).numel)
    (wf : GatherDims.WF (⟨2, ![R, 100]⟩ : Shape) (⟨2, ![n, 1]⟩ : Shape) (⟨2, ![R, n]⟩ : Shape) [0] [1] [] [1] [] 1 ![R, 1])
    (r : Fin R) (c : Fin n) :
    select (broadcastInDim (⟨2, ![R, n]⟩ : Shape) ![1] b5
        (Host.reduce IntOp.andi
          (andi (cmpi .sge (wrapped tbl b0 b1) (broadcastInDim (⟨2, ![n, 1]⟩ : Shape) ![] b2 (constantI (⟨0, ![]⟩ : Shape) 32 0#32)))
            (cmpi .sle (wrapped tbl b0 b1)
              (broadcastInDim (⟨2, ![n, 1]⟩ : Shape) ![0, 1] b4
                (broadcastInDim (⟨2, ![1, 1]⟩ : Shape) ![1] b3 (constantI (⟨1, ![1]⟩ : Shape) 32 99#32)))))
          (constantI (⟨0, ![]⟩ : Shape) 1 1#1) hred h0))
      (Host.gather (⟨[0], [1], [], [], [1], 1, ![R, 1], wf⟩ : GatherDims (⟨2, ![R, 100]⟩ : Shape) (⟨2, ![n, 1]⟩ : Shape) (⟨2, ![R, n]⟩ : Shape))
        x (wrapped tbl b0 b1))
      fill (ix2 r c) = x (ix2 r (num c)) := by
  have hw : ∀ i, wrapped tbl b0 b1 i = BitVec.ofNat 32 (num (i 0)).val := fun i => wrapped_apply tbl b0 b1 i _ (htbl (i 0))
  rw [select_apply]
  show Scalar.select (Host.reduce IntOp.andi _ _ hred h0 _) _ _ = _
  rw [Host.reduce_andi_one _ _ hred h0 _ rfl fun i => ?_, select_one]
  · exact gather_column wf x _ r c (num c) (by decide) (hw _)
  · show IntOp.andi (IntOp.cmpi .sge (wrapped tbl b0 b1 i) 0#32) (IntOp.cmpi .sle (wrapped tbl b0 b1 i) 99#32) = 1#1
    rw [hw]
    exact (column_word _).2

end Cert.Pairs
-- ==== Proof.ReferenceIdealValue.lean ====
/-
  What the idealized reference computes. Its two tables are the rows and the columns of the list of pairs; it takes the
  argument's columns by either table and multiplies, which gives the array of products.
-/
module

public import proofs.«01_k».proof.Proof.Gen.ReferenceIdeal.Run
public import proofs.«01_k».proof.Proof.Take

@[expose] public section

noncomputable section

namespace Cert.ReferenceIdeal.Pairs

open Cert.ReferenceIdeal Cert.ReferenceIdeal.Gen Cert.Pairs Idealize.ShloMosaic Idealize.ShloMosaic.TcCoe Idealize.SL.Sem
open Idealize.ShloMosaic.ValueIdx

/-- The two tables at the position of pair (k, j) hold k and j. -/
theorem tables_at : ∀ k : Fin 100, ∀ j : Fin k.val,
    lit1t (tri k.val + j.val) = BitVec.ofNat 32 k.val ∧ lit0t (tri k.val + j.val) = BitVec.ofNat 32 j.val := by
  decide +kernel

/-- The first table holds the row of each position. -/
theorem row_table (c : Fin 4950) :
    lit1 (S4950.rowMajor (ix1 c)) = BitVec.ofNat 32 (⟨hi c.val, hi_lt _⟩ : Fin 100).val := by
  have h := (tables_at ⟨hi c.val, hi_lt _⟩ ⟨lo c.val, lo_lt_hi c.isLt⟩).1
  rw [tri_hi_add_lo] at h
  rw [← h]
  exact congrArg lit1t (rowMajor_vector (ix1 c))

/-- The second table holds the column of each position. -/
theorem column_table (c : Fin 4950) :
    lit0 (S4950.rowMajor (ix1 c)) = BitVec.ofNat 32 (⟨lo c.val, lo_lt c.isLt⟩ : Fin 100).val := by
  have h := (tables_at ⟨hi c.val, hi_lt _⟩ ⟨lo c.val, lo_lt_hi c.isLt⟩).2
  rw [tri_hi_add_lo] at h
  rw [← h]
  exact congrArg lit0t (rowMajor_vector (ix1 c))

variable {F : FTy → Type} [FloatOps F]
variable (m : (ℓ : Loc nD τ sig) → Buf (Elt F) ℓ) (ρ : Dev nD → PrngReg)

/-- THE RUN: from any memory with zero counters, every fair run of the reference ends with the result array at the
    products of the argument array, and the argument array as it was. -/
theorem run : θ_run defs (onTc (τ := τ) (main (F := F))) ⟨m, fun _ => 0, ρ⟩ fun r => ∀ c : Dev nD,
      r.2.mem ((c.tc : Thread nD τ).loc main_v2) = pairProd (n := 16384) (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext y
  rw [eq_ix2 y]
  refine congrArg₂ FloatOps.mulf ?_ ?_
  · exact take_apply _ _ _ (fun c => ⟨hi c.val, hi_lt _⟩) row_table _ _ _ _ _ _ _ _ _ (y 0) (y 1)
  · exact take_apply _ _ _ (fun c => ⟨lo c.val, lo_lt c.isLt⟩) column_table _ _ _ _ _ _ _ _ _ (y 0) (y 1)

end Cert.ReferenceIdeal.Pairs

end
-- ==== Proof.lean ====
/-
  The claims, assembled: the frames of the four programs, and the two value claims, which both follow because kernel and
  reference end with one and the same array, the products of the pairs of the argument's columns.
-/
module

public import proofs.«01_k».proof.Defs
public import proofs.«01_k».proof.Proof.KernelValue
public import proofs.«01_k».proof.Proof.KernelIdealValue
public import proofs.«01_k».proof.Proof.ReferenceValue
public import proofs.«01_k».proof.Proof.ReferenceIdealValue
public import Idealize.ShloMosaic.Lib.Quiescent

@[expose] public section

namespace Cert.Proof

open Idealize.ShloMosaic Idealize.ShloMosaic.TcCoe Idealize.SL.Sem

/-- The reference runs, leaves its argument as it was and ends with every semaphore at zero: it has none. -/
theorem frame_reference : Cert.quiescent_Reference := fun m ρ _ =>
  (θ_run Cert.Reference.defs _ _).mono
    (fun r h => ⟨fun c => (h c).2, Idealize.ShloMosaic.sem_eq_zero_of_no_sems (by decide) r.2⟩)
    (Cert.Reference.Pairs.run (F := Bits) m ρ)

/-- The same of the idealized reference. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Pairs.run (F := Ideal) m ρ)

/-- BIT FOR BIT: on arguments that agree, kernel and reference end with the same words in every entry of the result. -/
theorem bitexact : Cert.bitexact_Kernel_Reference := by
  intro m ρ m' ρ' _ hagree
  refine ⟨fun c => Cert.Kernel.Pairs.products m c, Cert.Kernel.Pairs.run m ρ, ?_⟩
  refine (θ_run Cert.Reference.defs _ _).mono (fun _ h c => ⟨(h c).1.trans ?_, (h c).2⟩)
    (Cert.Reference.Pairs.run (F := Bits) m' ρ')
  exact congrArg (Cert.Pairs.pairProd (F := Bits) (n := 16384)) (hagree c)

/-- IN EXACT ARITHMETIC: on arguments that agree, the idealized kernel and reference end with the same result. -/
theorem algebraic : Cert.algebraic_KernelIdeal_ReferenceIdeal := by
  intro m ρ m' ρ' _ hagree
  refine ⟨fun c => Cert.KernelIdeal.Pairs.products m c, Cert.KernelIdeal.Pairs.run m ρ, ?_⟩
  refine (θ_run Cert.ReferenceIdeal.defs _ _).mono (fun _ h c => ⟨(h c).1.trans ?_, (h c).2⟩)
    (Cert.ReferenceIdeal.Pairs.run (F := Ideal) m' ρ')
  exact congrArg (Cert.Pairs.pairProd (F := Ideal) (n := 16384)) (hagree c)

/-- Every claim made of the kernel and its reference. -/
theorem claim : Cert.Claim :=
  ⟨Cert.Kernel.Gen.facts, Cert.Reference.Gen.facts, Cert.KernelIdeal.Gen.facts, Cert.ReferenceIdeal.Gen.facts,
    fun m ρ _ => Cert.Kernel.Gen.frame m ρ, frame_reference, fun m ρ _ => Cert.KernelIdeal.Gen.frame m ρ,
    frame_referenceIdeal, bitexact, trivial, algebraic⟩

end Cert.Proof
